-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "half_mean_a" .f32 0x38A3D70A#32 ((1 / 12800 : ℝ) : EReal)
  ∧ IdealRules.named_const.Statement Cert.KernelIdeal.κ "half_mean_v" .f32 0x3923D70A#32 ((1 / 6400 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x100x768 : Shape := ⟨3, ![64, 100, 768]⟩
abbrev S64x768 : Shape := ⟨2, ![64, 768]⟩
abbrev S64x50x768 : Shape := ⟨3, ![64, 50, 768]⟩
abbrev S64x100 : Shape := ⟨2, ![64, 100]⟩
abbrev S64x50 : Shape := ⟨2, ![64, 50]⟩
abbrev S1x768x768 : Shape := ⟨3, ![1, 768, 768]⟩
abbrev S1 : Shape := ⟨1, ![1]⟩
abbrev S1x1 : Shape := ⟨2, ![1, 1]⟩
abbrev S_ : Shape := ⟨0, ![]⟩
abbrev S8x100x768 : Shape := ⟨3, ![8, 100, 768]⟩
abbrev S8x50x768 : Shape := ⟨3, ![8, 50, 768]⟩
abbrev S8x100 : Shape := ⟨2, ![8, 100]⟩
abbrev S8x50 : Shape := ⟨2, ![8, 50]⟩
abbrev S768x64 : Shape := ⟨2, ![768, 64]⟩
abbrev S768x768 : Shape := ⟨2, ![768, 768]⟩
abbrev S8x100x64 : Shape := ⟨3, ![8, 100, 64]⟩
abbrev S8x50x64 : Shape := ⟨3, ![8, 50, 64]⟩
abbrev S1x8x100 : Shape := ⟨3, ![1, 8, 100]⟩
abbrev S1x1x1 : Shape := ⟨3, ![1, 1, 1]⟩
abbrev S1x8x50 : Shape := ⟨3, ![1, 8, 50]⟩

abbrev nBuf : Space → Nat
  | .hbm => 13
  | .vmem => 18
  | .smem => 2
  | _ => 0

abbrev bufTy : (tb : Table) → Fin (tcTables nBuf tb) → BufTy
  | .hbm, ⟨0, _⟩ => ⟨S64x100x768, .f32⟩
  | .hbm, ⟨1, _⟩ => ⟨S64x768, .f32⟩
  | .hbm, ⟨2, _⟩ => ⟨S64x50x768, .f32⟩
  | .hbm, ⟨3, _⟩ => ⟨S64x100, .f32⟩
  | .hbm, ⟨4, _⟩ => ⟨S64x50, .f32⟩
  | .hbm, ⟨5, _⟩ => ⟨S64x100, .i32⟩
  | .hbm, ⟨6, _⟩ => ⟨S64x50, .i32⟩
  | .hbm, ⟨7, _⟩ => ⟨S1x768x768, .f32⟩
  | .hbm, ⟨8, _⟩ => ⟨S1, .f32⟩
  | .hbm, ⟨9, _⟩ => ⟨S1x768x768, .f32⟩
  | .hbm, ⟨10, _⟩ => ⟨S1, .f32⟩
  | .hbm, ⟨11, _⟩ => ⟨S1x1, .f32⟩
  | .hbm, ⟨12, _⟩ => ⟨S_, .f32⟩
  | .local _ .vmem, ⟨0, _⟩ => ⟨S8x100x768, .f32⟩
  | .local _ .vmem, ⟨1, _⟩ => ⟨S8x100x768, .f32⟩
  | .local _ .vmem, ⟨2, _⟩ => ⟨S8x50x768, .f32⟩
  | .local _ .vmem, ⟨3, _⟩ => ⟨S8x50x768, .f32⟩
  | .local _ .vmem, ⟨4, _⟩ => ⟨S64x768, .f32⟩
  | .local _ .vmem, ⟨5, _⟩ => ⟨S8x100, .f32⟩
  | .local _ .vmem, ⟨6, _⟩ => ⟨S8x100, .f32⟩
  | .local _ .vmem, ⟨7, _⟩ => ⟨S8x50, .f32⟩
  | .local _ .vmem, ⟨8, _⟩ => ⟨S8x50, .f32⟩
  | .local _ .vmem, ⟨9, _⟩ => ⟨S8x100, .i32⟩
  | .local _ .vmem, ⟨10, _⟩ => ⟨S8x100, .i32⟩
  | .local _ .vmem, ⟨11, _⟩ => ⟨S8x50, .i32⟩
  | .local _ .vmem, ⟨12, _⟩ => ⟨S8x50, .i32⟩
  | .local _ .vmem, ⟨13, _⟩ => ⟨S1x768x768, .f32⟩
  | .local _ .vmem, ⟨14, _⟩ => ⟨S1x768x768, .f32⟩
  | .local _ .vmem, ⟨15, _⟩ => ⟨S1x1, .f32⟩
  | .local _ .vmem, ⟨16, _⟩ => ⟨S768x64, .bf16⟩
  | .local _ .vmem, ⟨17, _⟩ => ⟨S768x64, .bf16⟩
  | .local _ .smem, ⟨0, _⟩ => ⟨S1, .f32⟩
  | .local _ .smem, ⟨1, _⟩ => ⟨S1, .f32⟩
  | _, _ => ⟨S64x100x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_stg9_0 : Ref sig .tc := ⟨.smem, 0, rfl⟩
abbrev cc0_stg10_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x100x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x50x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x100 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x50 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "half_mean_a" => some ((1 / 12800 : ℝ) : EReal)
  | "half_mean_v" => some ((1 / 6400 : ℝ) : EReal)
  | _ => none
-- ==== ReferenceIdeal.lean ====
abbrev S64x100x768 : Shape := ⟨3, ![64, 100, 768]⟩
abbrev S64x768 : Shape := ⟨2, ![64, 768]⟩
abbrev S64x50x768 : Shape := ⟨3, ![64, 50, 768]⟩
abbrev S64x100 : Shape := ⟨2, ![64, 100]⟩
abbrev S64x50 : Shape := ⟨2, ![64, 50]⟩
abbrev S1x768x768 : Shape := ⟨3, ![1, 768, 768]⟩
abbrev S1 : Shape := ⟨1, ![1]⟩
abbrev S768x768 : Shape := ⟨2, ![768, 768]⟩
abbrev S_ : Shape := ⟨0, ![]⟩
abbrev S6400 : Shape := ⟨1, ![6400]⟩
abbrev S3200 : Shape := ⟨1, ![3200]⟩

abbrev nBuf : Space → Nat
  | .hbm => 64
  | .vmem => 0
  | .smem => 0
  | _ => 0

abbrev bufTy : (tb : Table) → Fin (tcTables nBuf tb) → BufTy
  | .hbm, ⟨0, _⟩ => ⟨S64x100x768, .f32⟩
  | .hbm, ⟨1, _⟩ => ⟨S64x768, .f32⟩
  | .hbm, ⟨2, _⟩ => ⟨S64x50x768, .f32⟩
  | .hbm, ⟨3, _⟩ => ⟨S64x100, .f32⟩
  | .hbm, ⟨4, _⟩ => ⟨S64x50, .f32⟩
  | .hbm, ⟨5, _⟩ => ⟨S64x100, .i32⟩
  | .hbm, ⟨6, _⟩ => ⟨S64x50, .i32⟩
  | .hbm, ⟨7, _⟩ => ⟨S1x768x768, .f32⟩
  | .hbm, ⟨8, _⟩ => ⟨S1, .f32⟩
  | .hbm, ⟨9, _⟩ => ⟨S1x768x768, .f32⟩
  | .hbm, ⟨10, _⟩ => ⟨S1, .f32⟩
  | .hbm, ⟨11, _⟩ => ⟨S768x768, .f32⟩
  | .hbm, ⟨12, _⟩ => ⟨S64x768, .f32⟩
  | .hbm, ⟨13, _⟩ => ⟨S64x100, .f32⟩
  | .hbm, ⟨14, _⟩ => ⟨S_, .f32⟩
  | .hbm, ⟨15, _⟩ => ⟨S64x100, .f32⟩
  | .hbm, ⟨16, _⟩ => ⟨S64x100, .f32⟩
  | .hbm, ⟨17, _⟩ => ⟨S768x768, .f32⟩
  | .hbm, ⟨18, _⟩ => ⟨S64x768, .f32⟩
  | .hbm, ⟨19, _⟩ => ⟨S64x50, .f32⟩
  | .hbm, ⟨20, _⟩ => ⟨S_, .f32⟩
  | .hbm, ⟨21, _⟩ => ⟨S64x50, .f32⟩
  | .hbm, ⟨22, _⟩ => ⟨S64x50, .f32⟩
  | .hbm, ⟨23, _⟩ => ⟨S64x100, .f32⟩
  | .hbm, ⟨24, _⟩ => ⟨S64x50, .f32⟩
  | .hbm, ⟨25, _⟩ => ⟨S6400, .f32⟩
  | .hbm, ⟨26, _⟩ => ⟨S6400, .i32⟩
  | .hbm, ⟨27, _⟩ => ⟨S6400, .f32⟩
  | .hbm, ⟨28, _⟩ => ⟨S_, .f32⟩
  | .hbm, ⟨29, _⟩ => ⟨S6400, .f32⟩
  | .hbm, ⟨30, _⟩ => ⟨S6400, .f32⟩
  | .hbm, ⟨31, _⟩ => ⟨S6400, .f32⟩
  | .hbm, ⟨32, _⟩ => ⟨S6400, .f32⟩
  | .hbm, ⟨33, _⟩ => ⟨S6400, .f32⟩
  | .hbm, ⟨34, _⟩ => ⟨S6400, .f32⟩
  | .hbm, ⟨35, _⟩ => ⟨S6400, .f32⟩
  | .hbm, ⟨36, _⟩ => ⟨S6400, .f32⟩
  | .hbm, ⟨37, _⟩ => ⟨S6400, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S3200, .f32⟩
  | .hbm, ⟨43, _⟩ => ⟨S3200, .i32⟩
  | .hbm, ⟨44, _⟩ => ⟨S3200, .f32⟩
  | .hbm, ⟨45, _⟩ => ⟨S_, .f32⟩
  | .hbm, ⟨46, _⟩ => ⟨S3200, .f32⟩
  | .hbm, ⟨47, _⟩ => ⟨S3200, .f32⟩
  | .hbm, ⟨48, _⟩ => ⟨S3200, .f32⟩
  | .hbm, ⟨49, _⟩ => ⟨S3200, .f32⟩
  | .hbm, ⟨50, _⟩ => ⟨S3200, .f32⟩
  | .hbm, ⟨51, _⟩ => ⟨S3200, .f32⟩
  | .hbm, ⟨52, _⟩ => ⟨S3200, .f32⟩
  | .hbm, ⟨53, _⟩ => ⟨S3200, .f32⟩
  | .hbm, ⟨54, _⟩ => ⟨S3200, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S64x100x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Loss.lean ====
/- The mathematics of the claim, over extended reals and free of both programs: the logit of one candidate, the loss of
   one logit against its label, and the two laws that let a loss summed in eight weighted parts equal a weighted mean. -/
module

public import Idealize.ShloMosaic.Lib.Pointwise
public import Idealize.ShloMosaic.Lib.Pipeline.ValueKit

@[expose] public section

set_option maxRecDepth 16384

noncomputable section

namespace Cert.Loss

open Idealize.ShloMosaic

/-- The projected state of one batch row: entry `i` is the product of row `i` of the weights with the state vector. -/
def proj (W : (⟨3, ![1, 768, 768]⟩ : Shape).Idx → EReal) (S : (⟨2, ![64, 768]⟩ : Shape).Idx → EReal) (b : Fin 64) (i : Fin 768) : EReal :=
  ∑ j : Fin 768, W (ix3 0 i j) * S (ix2 b j)

/-- The masked logit of one candidate vector `x` against the projected state `u`, with bias `β` and mask value `μ`. -/
def logit (x u : Fin 768 → EReal) (β μ : EReal) : EReal :=
  (∑ i : Fin 768, x i * u i + β) * μ

/-- The binary cross-entropy of the logit `w` against the integer label `y`. -/
def bce (w : EReal) (y : BitVec 32) : EReal :=
  max w 0 - w * FloatOps.sitofp (F := Ideal) .f32 y + Ideal.log1p (Ideal.exp (-FloatOps.absf (F := Ideal) (φ := .f32) w))

/-- The loss of candidate `e` of batch row `n`, among `K` candidates a row: candidates `X`, weights `W`, states `S`,
    bias `b`, mask `M`, labels `Y`. -/
def loss {K : ℕ} (X : (⟨3, ![64, K, 768]⟩ : Shape).Idx → EReal) (W : (⟨3, ![1, 768, 768]⟩ : Shape).Idx → EReal)
    (S : (⟨2, ![64, 768]⟩ : Shape).Idx → EReal) (b : (⟨1, ![1]⟩ : Shape).Idx → EReal) (M : (⟨2, ![64, K]⟩ : Shape).Idx → EReal)
    (Y : (⟨2, ![64, K]⟩ : Shape).Idx → BitVec 32) (n : Fin 64) (e : Fin K) : EReal :=
  bce (logit (fun k => X (ix3 n e k)) (proj W S n) (b (ix1 0)) (M (ix2 n e))) (Y (ix2 n e))

/-- A finite non-negative factor distributes over a finite sum of extended reals. -/
theorem mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- Among the 64 columns of the words `0, …, 63`, the test against the word of `8 * g + r` keeps that column alone. -/
theorem sum_diag (g : Fin 8) (r : Fin 8) (a : BitVec 32) (ha : a = BitVec.ofNat 32 g.val) (f : Fin 64 → EReal) :
    ∑ c : Fin 64, Scalar.select (IntOp.cmpi CmpIPredicate.eq (BitVec.ofNat 32 c.val)
        (IntOp.addi (Scalar.muli a 8#32) (BitVec.ofNat 32 r.val))) (f c) (0 : EReal)
      = f ⟨g.val * 8 + r.val, by omega⟩ := by
  subst ha
  rw [Finset.sum_eq_single (⟨g.val * 8 + r.val, by omega⟩ : Fin 64)]
  · have h : ∀ g r : Fin 8, IntOp.cmpi CmpIPredicate.eq (BitVec.ofNat 32 (g.val * 8 + r.val))
        (IntOp.addi (Scalar.muli (BitVec.ofNat 32 g.val) 8#32) (BitVec.ofNat 32 r.val)) = 1#1 := by decide
    rw [h]; rfl
  · intro c _ hc
    have h : ∀ (g r : Fin 8) (c : Fin 64), c.val ≠ g.val * 8 + r.val → IntOp.cmpi CmpIPredicate.eq (BitVec.ofNat 32 c.val)
        (IntOp.addi (Scalar.muli (BitVec.ofNat 32 g.val) 8#32) (BitVec.ofNat 32 r.val)) = 0#1 := by decide +kernel
    rw [h g r c fun e => hc (Fin.ext e)]; rfl
  · intro h; exact absurd (Finset.mem_univ _) h

/-- Half the mean of a table read row by row is its sum over rows and columns, weighted by `w = 1 / (2 * d)`. -/
theorem half_mean {K L : ℕ} (hL : L = 64 * K) (d w : ℝ) (hd : d ≠ 0) (hw : 1 / d * (1 / 2) = w) (f : Fin 64 → Fin K → EReal)
    (F : Fin L → EReal) (hF : ∀ (x : Fin L) (hn : x.val / K < 64) (he : x.val % K < K), F x = f ⟨x.val / K, hn⟩ ⟨x.val % K, he⟩) :
    ((1 / 2 : ℝ) : EReal) * Ideal.div (∑ x : Fin L, F x) (d : EReal) = (w : EReal) * ∑ n : Fin 64, ∑ e : Fin K, f n e := by
  rw [Ideal.div_coe hd, mul_comm, mul_assoc, ← EReal.coe_mul, hw, mul_comm, Fin.sum_divmod_congr hF hL]

/-- A weighted sum over 64 rows is the sum, over eight groups, of the weighted sum over the eight rows of the group. -/
theorem sum_groups {K : ℕ} (w : ℝ) (hw : 0 ≤ w) (f : Fin 64 → Fin K → EReal) :
    (w : EReal) * ∑ n : Fin 64, ∑ e : Fin K, f n e
      = ∑ t : Fin 8, (w : EReal) * ∑ r : Fin 8, ∑ e : Fin K, f ⟨t.val * 8 + r.val, by omega⟩ e := by
  rw [← mul_sum _ w hw]
  refine congrArg _ ?_
  exact (Fin.sum_mul_add_fin 8 8 (fun n : Fin 64 => ∑ e : Fin K, f n e)).symm

end Cert.Loss

end
-- ==== Proof.Payload.lean ====
/- What the kernel's body computes at one grid point, in extended reals: the block it stores is the block it read plus
   the two weighted sums of losses over the eight batch rows of the point. -/
module

public import proofs.«01_k».proof.Proof.Gen.KernelIdeal.Skeleton
public import proofs.«01_k».proof.Proof.Loss

@[expose] public section

set_option maxRecDepth 16384

noncomputable section

namespace Cert.KernelIdeal.Payload

open Idealize.ShloMosaic Idealize.SL.Sem Cert.KernelIdeal Cert.KernelIdeal.Gen Cert.Loss

/-- The named weight of an answer loss is one over 12800. -/
theorem weight_a : (Named.named κ "half_mean_a" 0x38A3D70A#32 : Ideal .f32) = ((1 / 12800 : ℝ) : EReal) :=
  IdealRules.named_const.ideal_named_scalar _ _ _ _ rfl

/-- The named weight of an evidence loss is one over 6400. -/
theorem weight_v : (Named.named κ "half_mean_v" 0x3923D70A#32 : Ideal .f32) = ((1 / 6400 : ℝ) : EReal) :=
  IdealRules.named_const.ideal_named_scalar _ _ _ _ rfl

/-- The first scratch array holds the projected states, one batch row per column. -/
theorem pay2_at (S : Vec Ideal S64x768 .f32) (W : Vec Ideal S1x768x768 .f32) (i : Fin 768) (b : Fin 64) :
    k0_pay2 S W (ix2 i b) = proj W S b i := by
  pointwise [k0_pay2, proj]

/-- The second scratch array holds the projected states of the other weights. -/
theorem pay3_at (S : Vec Ideal S64x768 .f32) (W : Vec Ideal S1x768x768 .f32) (i : Fin 768) (b : Fin 64) :
    k0_pay3 S W (ix2 i b) = proj W S b i := by
  pointwise [k0_pay3, proj]

/-- The answer logits of the point: of the 64 columns only the row's own batch entry is kept. -/
theorem pay6_at (g : grid0.Coords) (γ : Fin 8) (hg : (g 0).val = γ.val) (X : Vec Ideal S8x100x768 .f32)
    (U : Vec Ideal S768x64 .bf16) (β : Elt Ideal .f32) (M : Vec Ideal S8x100 .f32) (r : Fin 8) (e : Fin 100) :
    k0_pay6 g X U β M (ix2 r e)
      = logit (fun k => X (ix3 r e k)) (fun k => U (ix2 k ⟨γ.val * 8 + r.val, by omega⟩)) β (M (ix2 r e)) := by
  pointwise [k0_pay6]
  rw [sum_diag γ r _ (by rw [hg])]
  rfl

/-- The weighted sum of the answer losses of the point. -/
theorem pay11_at (g : grid0.Coords) (γ : Fin 8) (hg : (g 0).val = γ.val) (X : Vec Ideal S8x100x768 .f32)
    (U : Vec Ideal S768x64 .bf16) (β : Elt Ideal .f32) (M : Vec Ideal S8x100 .f32) (Y : Vec Ideal S8x100 .i32) (j : S1x1.Idx) :
    k0_pay11 (k0_pay7 g X U β M Y) (k0_pay8 g X U β M) j
      = ((1 / 12800 : ℝ) : EReal) * ∑ r : Fin 8, ∑ e : Fin 100,
          bce (logit (fun k => X (ix3 r e k)) (fun k => U (ix2 k ⟨γ.val * 8 + r.val, by omega⟩)) β (M (ix2 r e))) (Y (ix2 r e)) := by
  pointwise [k0_pay11, k0_pay7, k0_pay8]
  rw [weight_a]
  refine congrArg _ (Finset.sum_congr rfl fun r _ => Finset.sum_congr rfl fun e _ => ?_)
  rw [pay6_at g γ hg, zero_sub]
  rfl

/-- The sum of the evidence losses of the point. -/
theorem pay9_at (a : BitVec 32) (γ : Fin 8) (ha : a = BitVec.ofNat 32 γ.val) (E : Vec Ideal S8x50x768 .f32)
    (U : Vec Ideal S768x64 .bf16) (β : Elt Ideal .f32) (M : Vec Ideal S8x50 .f32) (Y : Vec Ideal S8x50 .i32) (j : S1x1.Idx) :
    k0_pay9 a (k0_pay5 E U) β M Y j
      = ∑ r : Fin 8, ∑ v : Fin 50,
          bce (logit (fun k => E (ix3 r v k)) (fun k => U (ix2 k ⟨γ.val * 8 + r.val, by omega⟩)) β (M (ix2 r v))) (Y (ix2 r v)) := by
  pointwise [k0_pay9, k0_pay5]
  refine Finset.sum_congr rfl fun r _ => Finset.sum_congr rfl fun v _ => ?_
  rw [sum_diag γ r a ha, zero_sub]
  rfl

/-- The stored block: the block before, plus the two weighted sums. -/
theorem pay1_at (v acc p : FVec Ideal S1x1 .f32) (j : S1x1.Idx) :
    k0_pay1 v (k0_pay10 acc) p k0_pay12 j = acc j + (p j + ((1 / 6400 : ℝ) : EReal) * v j) := by
  pointwise [k0_pay1, k0_pay10, k0_pay12]
  rw [weight_v]

/-- The block stored before the first accumulation is zero. -/
theorem pay4_at (j : S1x1.Idx) : k0_pay4 (F := Ideal) j = 0 := by
  pointwise [k0_pay4]

end Cert.KernelIdeal.Payload

end
-- ==== Proof.Step.lean ====
/- From one grid point to the whole grid: what each point leaves in the output block and in the two scratch arrays, and
   what the output array holds after the last point. -/
module

public import proofs.«01_k».proof.Proof.Gen.KernelIdeal.Frame
public import proofs.«01_k».proof.Proof.Payload
public import Idealize.ShloMosaic.Lib.Pipeline.ValueKit
public import Idealize.ShloMosaic.Lib.Pipeline.ReadBack

@[expose] public section

set_option maxRecDepth 16384

noncomputable section

namespace Cert.KernelIdeal.Step

open Idealize.ShloMosaic Idealize.ShloMosaic.TcCoe Idealize.SL.Sem Cert.KernelIdeal Cert.KernelIdeal.Gen Cert.KernelIdeal.Payload Cert.Loss
open Idealize.ShloMosaic.Pipeline (Dat)

variable (m : (ℓ : Loc nD τ sig) → Buf (Elt Ideal) ℓ)

/-- The block index of every window at every grid point. -/
theorem idx : ∀ t : Fin cfg0.N, win0_0.index t = ![t.val, 0, 0] ∧ win0_1.index t = ![t.val, 0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0, 0] ∧ win0_8.index t = ![0, 0, 0] ∧ win0_9.index t = ![0] ∧ win0_10.index t = ![0]
    ∧ win0_11.index t = ![0, 0] ∧ (grid0.coords t 0).val = t.val :=
  (by decide +kernel : ∀ t : Fin grid0.N, _)

/-- The answer block of point `t` holds the candidates of batch rows `8 t` to `8 t + 7`. -/
theorem read_0 (c : Dev nD) (t : Fin cfg0.N) (r : Fin 8) (e : Fin 100) (k : Fin 768) (h : t.val * 8 + r.val < 64) :
    iblk m c 0 t (ix3 r e k) = m ((c.tc : Thread nD τ).loc main_arg0) (ix3 ⟨t.val * 8 + r.val, h⟩ e k) := by
  blk_ext [iblk, V, idx t]

/-- The evidence block of the point holds the same batch rows. -/
theorem read_1 (c : Dev nD) (t : Fin cfg0.N) (r : Fin 8) (v : Fin 50) (k : Fin 768) (h : t.val * 8 + r.val < 64) :
    iblk m c 1 t (ix3 r v k) = m ((c.tc : Thread nD τ).loc main_arg2) (ix3 ⟨t.val * 8 + r.val, h⟩ v k) := by
  blk_ext [iblk, V, idx t]

/-- The answer mask of the point holds the same batch rows. -/
theorem read_3 (c : Dev nD) (t : Fin cfg0.N) (r : Fin 8) (e : Fin 100) (h : t.val * 8 + r.val < 64) :
    iblk m c 3 t (ix2 r e) = m ((c.tc : Thread nD τ).loc main_arg3) (ix2 ⟨t.val * 8 + r.val, h⟩ e) := by
  blk_ext [iblk, V, idx t]

/-- The evidence mask of the point holds the same batch rows. -/
theorem read_4 (c : Dev nD) (t : Fin cfg0.N) (r : Fin 8) (v : Fin 50) (h : t.val * 8 + r.val < 64) :
    iblk m c 4 t (ix2 r v) = m ((c.tc : Thread nD τ).loc main_arg4) (ix2 ⟨t.val * 8 + r.val, h⟩ v) := by
  blk_ext [iblk, V, idx t]

/-- The answer labels of the point are those of the same batch rows. -/
theorem read_5 (c : Dev nD) (t : Fin cfg0.N) (r : Fin 8) (e : Fin 100) (h : t.val * 8 + r.val < 64) :
    iblk m c 5 t (ix2 r e) = m ((c.tc : Thread nD τ).loc main_arg5) (ix2 ⟨t.val * 8 + r.val, h⟩ e) := by
  blk_ext [iblk, V, idx t]

/-- The evidence labels of the point are those of the same batch rows. -/
theorem read_6 (c : Dev nD) (t : Fin cfg0.N) (r : Fin 8) (v : Fin 50) (h : t.val * 8 + r.val < 64) :
    iblk m c 6 t (ix2 r v) = m ((c.tc : Thread nD τ).loc main_arg6) (ix2 ⟨t.val * 8 + r.val, h⟩ v) := by
  blk_ext [iblk, V, idx t]

/-- Every point holds all state vectors. -/
theorem read_2 (c : Dev nD) (t : Fin cfg0.N) : iblk m c 2 t = m ((c.tc : Thread nD τ).loc main_arg1) := by
  blk_ext! [iblk, V, idx t]

/-- Every point holds all answer weights. -/
theorem read_7 (c : Dev nD) (t : Fin cfg0.N) : iblk m c 7 t = m ((c.tc : Thread nD τ).loc main_arg7) := by
  blk_ext! [iblk, V, idx t]

/-- Every point holds all evidence weights. -/
theorem read_8 (c : Dev nD) (t : Fin cfg0.N) : iblk m c 8 t = m ((c.tc : Thread nD τ).loc main_arg9) := by
  blk_ext! [iblk, V, idx t]

/-- The first scratch array keeps, from the first point on, the projected states of the answer weights. -/
theorem scratch_a (c : Dev nD) : ∀ (n : ℕ) (hn : n < cfg0.N), (outsAt0 m c n hn).2.1
    = k0_pay2 (F := Ideal) (m ((c.tc : Thread nD τ).loc main_arg1)) (m ((c.tc : Thread nD τ).loc main_arg7)) := by
  intro n
  induction n with
  | zero =>
    intro hn
    rw [outsAt0_A m c ⟨0, hn⟩ rfl, ← read_2 m c ⟨0, hn⟩, ← read_7 m c ⟨0, hn⟩]
    funext j
    frame_out
  | succ n ih =>
    intro hn
    have hN : cfg0.N = 8 := N_0
    rw [outsAt0_B m c ⟨n + 1, hn⟩ (by simp only; omega)]
    exact ih _

/-- The second scratch array keeps, from the first point on, the projected states of the evidence weights. -/
theorem scratch_v (c : Dev nD) : ∀ (n : ℕ) (hn : n < cfg0.N), (outsAt0 m c n hn).2.2
    = k0_pay3 (F := Ideal) (m ((c.tc : Thread nD τ).loc main_arg1)) (m ((c.tc : Thread nD τ).loc main_arg9)) := by
  intro n
  induction n with
  | zero =>
    intro hn
    rw [outsAt0_A m c ⟨0, hn⟩ rfl, ← read_2 m c ⟨0, hn⟩, ← read_8 m c ⟨0, hn⟩]
    funext j
    frame_out
  | succ n ih =>
    intro hn
    have hN : cfg0.N = 8 := N_0
    rw [outsAt0_B m c ⟨n + 1, hn⟩ (by simp only; omega)]
    exact ih _

/-- The weighted losses of the eight batch rows of group `γ`. -/
def group (c : Dev nD) (γ : Fin 8) : EReal :=
  ((1 / 12800 : ℝ) : EReal) * ∑ r : Fin 8, ∑ e : Fin 100,
      loss (K := 100) (m ((c.tc : Thread nD τ).loc main_arg0)) (m ((c.tc : Thread nD τ).loc main_arg7)) (m ((c.tc : Thread nD τ).loc main_arg1))
        (m ((c.tc : Thread nD τ).loc main_arg8)) (m ((c.tc : Thread nD τ).loc main_arg3)) (m ((c.tc : Thread nD τ).loc main_arg5)) ⟨γ.val * 8 + r.val, by omega⟩ e
    + ((1 / 6400 : ℝ) : EReal) * ∑ r : Fin 8, ∑ v : Fin 50,
      loss (K := 50) (m ((c.tc : Thread nD τ).loc main_arg2)) (m ((c.tc : Thread nD τ).loc main_arg9)) (m ((c.tc : Thread nD τ).loc main_arg1))
        (m ((c.tc : Thread nD τ).loc main_arg10)) (m ((c.tc : Thread nD τ).loc main_arg4)) (m ((c.tc : Thread nD τ).loc main_arg6)) ⟨γ.val * 8 + r.val, by omega⟩ v

/-- What point `t` stores over a block `acc`: the block plus the weighted losses of group `t`. -/
theorem body_at (c : Dev nD) (t : Fin cfg0.N) (acc : FVec Ideal S1x1 .f32) (β δ : Elt Ideal .f32)
    (hβ : β = m ((c.tc : Thread nD τ).loc main_arg8) (ix1 0)) (hδ : δ = m ((c.tc : Thread nD τ).loc main_arg10) (ix1 0)) (j : S1x1.Idx) :
    k0_pay1
        (k0_pay9 (BitVec.ofNat 32 (grid0.coords t 0).val) (k0_pay5 (iblk m c 1 t) (k0_pay3 (m ((c.tc : Thread nD τ).loc main_arg1)) (m ((c.tc : Thread nD τ).loc main_arg9)))) δ
          (iblk m c 4 t) (iblk m c 6 t))
        (k0_pay10 acc)
        (k0_pay11 (k0_pay7 (grid0.coords t) (iblk m c 0 t) (k0_pay2 (m ((c.tc : Thread nD τ).loc main_arg1)) (m ((c.tc : Thread nD τ).loc main_arg7))) β (iblk m c 3 t) (iblk m c 5 t))
          (k0_pay8 (grid0.coords t) (iblk m c 0 t) (k0_pay2 (m ((c.tc : Thread nD τ).loc main_arg1)) (m ((c.tc : Thread nD τ).loc main_arg7))) β (iblk m c 3 t)))
        k0_pay12 j
      = acc j + group m c (Fin.cast N_0 t) := by
  have hc : (grid0.coords t 0).val = (Fin.cast N_0 t).val := (idx t).2.2.2.2.2.2.2.2.2.2.2.2
  subst hβ hδ
  rw [pay1_at, pay11_at _ (Fin.cast N_0 t) hc, pay9_at _ (Fin.cast N_0 t) (by rw [hc])]
  have ht : t.val < 8 := lt_of_lt_of_eq t.isLt N_0
  refine congrArg (acc j + ·) (congrArg₂ (· + ·) (congrArg _ ?_) (congrArg _ ?_))
  · refine Finset.sum_congr rfl fun r _ => Finset.sum_congr rfl fun e _ => ?_
    have h : t.val * 8 + r.val < 64 := by omega
    rw [read_3 m c t r e h, read_5 m c t r e h]
    simp only [pay2_at, read_0 m c t r e _ h]
    rfl
  · refine Finset.sum_congr rfl fun r _ => Finset.sum_congr rfl fun v _ => ?_
    have h : t.val * 8 + r.val < 64 := by omega
    rw [read_4 m c t r v h, read_6 m c t r v h]
    simp only [pay3_at, read_1 m c t r v _ h]
    rfl

/-- The first point stores the weighted losses of its group over a zero block. -/
theorem out_A (c : Dev nD) (t : Fin cfg0.N) (h : t.val % 8 = 0) (j : S1x1.Idx) :
    (outsAt0 m c t.val t.isLt).1 j = 0 + group m c (Fin.cast N_0 t) := by
  rw [outsAt0_A m c t h]
  frame_out
  rw [read_2, read_7, read_8]
  refine (body_at m c t k0_pay4 _ _ ?_ ?_ j).trans (by rw [pay4_at])
  · pointwise
    blk_ext [iblk, V, idx t]
  · pointwise
    blk_ext [iblk, V, idx t]

/-- Every later point adds the weighted losses of its group to what the point before left. -/
theorem out_B (c : Dev nD) (t : Fin cfg0.N) (h : ¬ t.val % 8 = 0) (j : S1x1.Idx) :
    (outsAt0 m c t.val t.isLt).1 j
      = (outsAt0 m c (t.val - 1) (Nat.lt_of_le_of_lt (Nat.sub_le _ _) t.isLt)).1 j + group m c (Fin.cast N_0 t) := by
  rw [outsAt0_B m c t h]
  frame_out
  simp only [read_unread_whole]
  rw [scratch_a, scratch_v]
  refine body_at m c t _ _ _ ?_ ?_ j
  · pointwise
    blk_ext [iblk, V, idx t]
  · pointwise
    blk_ext [iblk, V, idx t]

/-- After the last point the output array holds the weighted losses of all eight groups. -/
theorem final (c : Dev nD) (j : S1x1.Idx) :
    (dats m 0 c).arrAt 11 (cfgs 0).N j = ∑ γ : Fin 8, group m c γ := by
  have H : (dats m 0 c).arrAt 11 (cfgs 0).N = fun _ => ∑ γ : Fin 8, group m c γ := by
    refine (dats m 0 c).arrAt_eq_of_after_last 11 t0_7 (by decide +kernel) _ fun j => ?_
    blk_simp
    rw [after0_11, Pipeline.eq_sum_fin_of_reset_step_apply_last (fun n h => (outsAt0 m c n h).1) 8 (fun _ => 0)
      (fun p _ => group m c (Fin.cast N_0 p)) (out_A m c) (out_B m c) (le_of_eq N_0) t0_7 rfl j, zero_add]
    exact (Fin.castOrderIso N_0).toEquiv.sum_comp (group m c)
  exact congrFun H j

/-- The reshape after the region leaves the same value in the scalar result. -/
theorem result (c : Dev nD) (i : S_.Idx) :
    Pipeline.afterTail₀ cfgs (dats m) 0 (V0 m) [hostOps1] c main_v0 i = ∑ γ : Fin 8, group m c γ := by
  have H := Pipeline.withArrays_arr (cfgs 0).spec launch0.win.arr_inj c (V0 m c) (fun w => (dats m 0 c).arrAt w (cfgs 0).N) 11
  have E : Pipeline.afterTail₀ cfgs (dats m) 0 (V0 m) [hostOps1] c main_v0
      = shapeCast S_ ((dats m 0 c).arrAt 11 (cfgs 0).N : FVec Ideal S1x1 .f32) shapeCasts_S1x1_S_ := by
    rw [← H]
    unfold Pipeline.afterTail₀
    rw [List.flatten_cons, List.flatten_nil, List.append_nil]
    after_results
    rfl
  rw [E]
  pointwise
  exact final m c _

end Cert.KernelIdeal.Step

end
-- ==== Proof.Consts.lean ====
/- The three float constants of the reference, as the real numbers their patterns denote. -/
module

public import Idealize.ShloMosaic.PureOps.Ideal

@[expose] public section

noncomputable section

namespace Cert.Consts

open Idealize.ShloMosaic

/-- The pattern of `0.5` denotes one half. -/
theorem half : Ideal.ofBits .f32 0x3F000000#32 = ((1 / 2 : ℝ) : EReal) := by
  simp [Ideal.ofBits, Ideal.ieee, -EReal.coe_mul]; norm_num

/-- The pattern of `6400.0`, the number of answer logits, denotes 6400. -/
theorem answers : Ideal.ofBits .f32 0x45C80000#32 = ((6400 : ℝ) : EReal) := by
  simp [Ideal.ofBits, Ideal.ieee, -EReal.coe_mul]; norm_num

/-- The pattern of `3200.0`, the number of evidence logits, denotes 3200. -/
theorem evidences : Ideal.ofBits .f32 0x45480000#32 = ((3200 : ℝ) : EReal) := by
  simp [Ideal.ofBits, Ideal.ieee, -EReal.coe_mul]; norm_num

end Cert.Consts

end
-- ==== Proof.Reference.lean ====
/- The reference's result in extended reals: half the mean loss of the answers plus half the mean loss of the evidence. -/
module

public import proofs.«01_k».proof.Proof.Gen.ReferenceIdeal.Run
public import proofs.«01_k».proof.Proof.Loss
public import proofs.«01_k».proof.Proof.Consts

@[expose] public section

set_option maxRecDepth 16384

noncomputable section

namespace Cert.ReferenceIdeal.Mean

open Idealize.ShloMosaic Idealize.SL.Sem Cert.ReferenceIdeal Cert.ReferenceIdeal.Gen Cert.Loss

/-- The state vectors times the transposed weights, as the reference computes them. -/
def projected (S : FVec Ideal S64x768 .f32) (W : FVec Ideal S1x768x768 .f32) : FVec Ideal S64x768 .f32 :=
  Host.dotGeneral dot_S64x768_S768x768_S64x768_1_1_0_0_n_n none S (shapeCast _ W shapeCasts_S1x768x768_S768x768)

/-- The masked answer logits. -/
def answerLogits (X : FVec Ideal S64x100x768 .f32) (u : FVec Ideal S64x768 .f32) (b : FVec Ideal S1 .f32) (M : FVec Ideal S64x100 .f32) :
    FVec Ideal S64x100 .f32 :=
  mulf (addf (Host.dotGeneral dot_S64x100x768_S64x768_S64x100_2_1_1_n_0_0 none X u)
    (broadcastInDim S64x100 ![] bcast_S_S64x100 (shapeCast _ b shapeCasts_S1_S_))) M

/-- The masked evidence logits. -/
def evidenceLogits (E : FVec Ideal S64x50x768 .f32) (u : FVec Ideal S64x768 .f32) (b : FVec Ideal S1 .f32) (M : FVec Ideal S64x50 .f32) :
    FVec Ideal S64x50 .f32 :=
  mulf (addf (Host.dotGeneral dot_S64x50x768_S64x768_S64x50_2_1_1_n_0_0 none E u)
    (broadcastInDim S64x50 ![] bcast_S_S64x50 (shapeCast _ b shapeCasts_S1_S_))) M

/-- The mean loss of a row of 6400 answer logits, as the reference computes it. -/
def answerMean (w : FVec Ideal S6400 .f32) (y : IVec S6400 32) : FVec Ideal S_ .f32 :=
  Host.divf (Host.reduceAdd (addf (subf (maximumf w (broadcastInDim S6400 ![] bcast_S_S6400 (constant S_ .f32 0x00000000#32)))
      (mulf w (sitofp .f32 y))) (Host.log1p (Host.exp (Host.negf (Host.absf w)))))
    (constant S_ .f32 0x00000000#32) reducesTo_S6400_S_d0 h_S_) (constant S_ .f32 0x45C80000#32)

/-- The mean loss of a row of 3200 evidence logits, as the reference computes it. -/
def evidenceMean (w : FVec Ideal S3200 .f32) (y : IVec S3200 32) : FVec Ideal S_ .f32 :=
  Host.divf (Host.reduceAdd (addf (subf (maximumf w (broadcastInDim S3200 ![] bcast_S_S3200 (constant S_ .f32 0x00000000#32)))
      (mulf w (sitofp .f32 y))) (Host.log1p (Host.exp (Host.negf (Host.absf w)))))
    (constant S_ .f32 0x00000000#32) reducesTo_S3200_S_d0 h_S_) (constant S_ .f32 0x45480000#32)

/-- The reference's result as a term over its eleven arguments. -/
def result (X : FVec Ideal S64x100x768 .f32) (S : FVec Ideal S64x768 .f32) (E : FVec Ideal S64x50x768 .f32) (M : FVec Ideal S64x100 .f32)
    (N : FVec Ideal S64x50 .f32) (Y : IVec S64x100 32) (Z : IVec S64x50 32) (W : FVec Ideal S1x768x768 .f32) (b : FVec Ideal S1 .f32)
    (T : FVec Ideal S1x768x768 .f32) (d : FVec Ideal S1 .f32) : FVec Ideal S_ .f32 :=
  addf
    (mulf (constant S_ .f32 0x3F000000#32)
      (answerMean (shapeCast _ (answerLogits X (projected S W) b M) shapeCasts_S64x100_S6400) (shapeCast _ Y shapeCasts_S64x100_S6400)))
    (mulf (constant S_ .f32 0x3F000000#32)
      (evidenceMean (shapeCast _ (evidenceLogits E (projected S T) d N) shapeCasts_S64x50_S3200) (shapeCast _ Z shapeCasts_S64x50_S3200)))

/-- The reference's result: one part in 12800 of the answer losses plus one part in 6400 of the evidence losses. -/
theorem result_at (X : FVec Ideal S64x100x768 .f32) (S : FVec Ideal S64x768 .f32) (E : FVec Ideal S64x50x768 .f32) (M : FVec Ideal S64x100 .f32)
    (N : FVec Ideal S64x50 .f32) (Y : IVec S64x100 32) (Z : IVec S64x50 32) (W : FVec Ideal S1x768x768 .f32) (b : FVec Ideal S1 .f32)
    (T : FVec Ideal S1x768x768 .f32) (d : FVec Ideal S1 .f32) (i : S_.Idx) :
    result X S E M N Y Z W b T d i
      = ((1 / 12800 : ℝ) : EReal) * ∑ n : Fin 64, ∑ e : Fin 100, loss X W S b M Y n e
        + ((1 / 6400 : ℝ) : EReal) * ∑ n : Fin 64, ∑ v : Fin 50, loss E T S d N Z n v := by
  pointwise [result, answerMean, evidenceMean, answerLogits, evidenceLogits, projected]
  rw [Cert.Consts.half, Cert.Consts.answers, Cert.Consts.evidences]
  refine congrArg₂ (· + ·) ?_ ?_
  · refine half_mean rfl 6400 (1 / 12800) (by norm_num) (by norm_num) (loss X W S b M Y) _ fun x hn he => ?_
    simp only [loss, bce, logit, proj, mul_comm (S _)]
  · refine half_mean rfl 3200 (1 / 6400) (by norm_num) (by norm_num) (loss E T S d N Z) _ fun x hn he => ?_
    simp only [loss, bce, logit, proj, mul_comm (S _)]

end Cert.ReferenceIdeal.Mean

end
-- ==== Proof.Claims.lean ====
/- The five claims: three frames, the two named constants, and the equality of the two results in extended reals. -/
module

public import proofs.«01_k».proof.Defs
public import proofs.«01_k».proof.Proof.Gen.Kernel.Frame
public import proofs.«01_k».proof.Proof.Step
public import proofs.«01_k».proof.Proof.Reference
public import Idealize.ShloMosaic.Lib.Claim

@[expose] public section

set_option maxRecDepth 16384

noncomputable section

namespace Cert.Proof.Claims

open Idealize.ShloMosaic Idealize.ShloMosaic.TcCoe Idealize.SL.Sem

/-- Every run of the kernel on words ends, with its arguments unchanged and its counters at zero. -/
theorem frame_p : Cert.quiescent_Kernel := fun m ρ _ => Cert.Kernel.Gen.frame m ρ

/-- Every run of the idealized kernel ends, with its arguments unchanged and its counters at zero. -/
theorem frame_pi : Cert.quiescent_KernelIdeal := fun m ρ _ => Cert.KernelIdeal.Gen.frame m ρ

/-- Every run of the reference ends, with its arguments unchanged and its counters at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants have the values of the table. -/
theorem preserves : Cert.preserves_Kernel_KernelIdeal :=
  ⟨IdealRules.named_const.statement Cert.KernelIdeal.κ "half_mean_a" .f32 0x38A3D70A#32 ((1 / 12800 : ℝ) : EReal) rfl,
    IdealRules.named_const.statement Cert.KernelIdeal.κ "half_mean_v" .f32 0x3923D70A#32 ((1 / 6400 : ℝ) : EReal) rfl⟩

open Cert.Loss in
/-- The eight groups of weighted losses add up to the two weighted sums over all 64 batch rows. -/
theorem groups_eq (m : (ℓ : Loc Cert.KernelIdeal.nD Cert.KernelIdeal.τ Cert.KernelIdeal.sig) → Buf (Elt Ideal) ℓ)
    (c : Dev Cert.KernelIdeal.nD) (i : Cert.ReferenceIdeal.S_.Idx) :
    Cert.ReferenceIdeal.Mean.result (m ((c.tc : Thread _ _).loc Cert.KernelIdeal.main_arg0)) (m ((c.tc : Thread _ _).loc Cert.KernelIdeal.main_arg1))
        (m ((c.tc : Thread _ _).loc Cert.KernelIdeal.main_arg2)) (m ((c.tc : Thread _ _).loc Cert.KernelIdeal.main_arg3))
        (m ((c.tc : Thread _ _).loc Cert.KernelIdeal.main_arg4)) (m ((c.tc : Thread _ _).loc Cert.KernelIdeal.main_arg5))
        (m ((c.tc : Thread _ _).loc Cert.KernelIdeal.main_arg6)) (m ((c.tc : Thread _ _).loc Cert.KernelIdeal.main_arg7))
        (m ((c.tc : Thread _ _).loc Cert.KernelIdeal.main_arg8)) (m ((c.tc : Thread _ _).loc Cert.KernelIdeal.main_arg9))
        (m ((c.tc : Thread _ _).loc Cert.KernelIdeal.main_arg10)) i
      = ∑ γ : Fin 8, Cert.KernelIdeal.Step.group m c γ := by
  rw [Cert.ReferenceIdeal.Mean.result_at, sum_groups _ (by norm_num), sum_groups _ (by norm_num), ← Finset.sum_add_distrib]
  rfl

/-- From memories that agree on the arguments the two programs end with the same result. -/
theorem algebraic : Cert.algebraic_KernelIdeal_ReferenceIdeal := by
  pair_intro
  · run_from Cert.KernelIdeal.Gen.run_main m g
  · run_from Cert.ReferenceIdeal.Value.run (F := Ideal) m' g'
    funext i
    exact (groups_eq m c i).trans (Cert.KernelIdeal.Step.result m c i).symm

end Cert.Proof.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Claims.frame_p, Claims.frame_pi, Claims.frame_ri, Claims.preserves, Claims.algebraic⟩

end Cert.Proof

end
